-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024x96 : Shape := ⟨3, ![32, 1024, 96]⟩
abbrev S1x1024x96 : Shape := ⟨3, ![1, 1024, 96]⟩
abbrev S1024x96 : Shape := ⟨2, ![1024, 96]⟩
abbrev S32x96 : Shape := ⟨2, ![32, 96]⟩
abbrev S64x96 : Shape := ⟨2, ![64, 96]⟩
abbrev S960x96 : Shape := ⟨2, ![960, 96]⟩
abbrev S64 : Shape := ⟨1, ![64]⟩
abbrev S64x1 : Shape := ⟨2, ![64, 1]⟩
abbrev S960 : Shape := ⟨1, ![960]⟩
abbrev S960x1 : Shape := ⟨2, ![960, 1]⟩
abbrev S64x960 : Shape := ⟨2, ![64, 960]⟩
abbrev S1x32x96 : Shape := ⟨3, ![1, 32, 96]⟩
abbrev S1x960x96 : Shape := ⟨3, ![1, 960, 96]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x96, .f32⟩
  | .hbm, ⟨1, _⟩ => ⟨S32x1024x96, .f32⟩
  | .local _ .vmem, ⟨0, _⟩ => ⟨S1x1024x96, .f32⟩
  | .local _ .vmem, ⟨1, _⟩ => ⟨S1x1024x96, .f32⟩
  | .local _ .vmem, ⟨2, _⟩ => ⟨S1x1024x96, .f32⟩
  | .local _ .vmem, ⟨3, _⟩ => ⟨S1x1024x96, .f32⟩
  | _, _ => ⟨S32x1024x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x1024x96 : Shape := ⟨3, ![32, 1024, 96]⟩
abbrev S32x32x96 : Shape := ⟨3, ![32, 32, 96]⟩
abbrev S32x960x96 : Shape := ⟨3, ![32, 960, 96]⟩
abbrev S32x64x96 : Shape := ⟨3, ![32, 64, 96]⟩
abbrev S_ : Shape := ⟨0, ![]⟩
abbrev S32x64 : Shape := ⟨2, ![32, 64]⟩
abbrev S32x64x1 : Shape := ⟨3, ![32, 64, 1]⟩
abbrev S32x960 : Shape := ⟨2, ![32, 960]⟩
abbrev S32x960x1 : Shape := ⟨3, ![32, 960, 1]⟩
abbrev S32x64x960 : Shape := ⟨3, ![32, 64, 960]⟩
abbrev S1x1x960 : Shape := ⟨3, ![1, 1, 960]⟩

abbrev nBuf : Space → Nat
  | .hbm => 55
  | .vmem => 0
  | .smem => 0
  | _ => 0

abbrev bufTy : (tb : Table) → Fin (tcTables nBuf tb) → BufTy
  | .hbm, ⟨0, _⟩ => ⟨S32x1024x96, .f32⟩
  | .hbm, ⟨1, _⟩ => ⟨S32x32x96, .f32⟩
  | .hbm, ⟨2, _⟩ => ⟨S32x960x96, .f32⟩
  | .hbm, ⟨3, _⟩ => ⟨S32x32x96, .f32⟩
  | .hbm, ⟨4, _⟩ => ⟨S32x64x96, .f32⟩
  | .hbm, ⟨5, _⟩ => ⟨S32x64x96, .f32⟩
  | .hbm, ⟨6, _⟩ => ⟨S_, .f32⟩
  | .hbm, ⟨7, _⟩ => ⟨S32x64, .f32⟩
  | .hbm, ⟨8, _⟩ => ⟨S32x64x1, .f32⟩
  | .hbm, ⟨9, _⟩ => ⟨S32x64x1, .f32⟩
  | .hbm, ⟨10, _⟩ => ⟨S_, .f32⟩
  | .hbm, ⟨11, _⟩ => ⟨S32x64x1, .f32⟩
  | .hbm, ⟨12, _⟩ => ⟨S32x64x1, .f32⟩
  | .hbm, ⟨13, _⟩ => ⟨S32x64x96, .f32⟩
  | .hbm, ⟨14, _⟩ => ⟨S32x64x96, .f32⟩
  | .hbm, ⟨15, _⟩ => ⟨S32x960x96, .f32⟩
  | .hbm, ⟨16, _⟩ => ⟨S_, .f32⟩
  | .hbm, ⟨17, _⟩ => ⟨S32x960, .f32⟩
  | .hbm, ⟨18, _⟩ => ⟨S32x960x1, .f32⟩
  | .hbm, ⟨19, _⟩ => ⟨S32x960x1, .f32⟩
  | .hbm, ⟨20, _⟩ => ⟨S_, .f32⟩
  | .hbm, ⟨21, _⟩ => ⟨S32x960x1, .f32⟩
  | .hbm, ⟨22, _⟩ => ⟨S32x960x1, .f32⟩
  | .hbm, ⟨23, _⟩ => ⟨S32x960x96, .f32⟩
  | .hbm, ⟨24, _⟩ => ⟨S32x960x96, .f32⟩
  | .hbm, ⟨25, _⟩ => ⟨S32x64x960, .f32⟩
  | .hbm, ⟨26, _⟩ => ⟨S_, .f32⟩
  | .hbm, ⟨27, _⟩ => ⟨S32x64, .f32⟩
  | .hbm, ⟨28, _⟩ => ⟨S_, .f32⟩
  | .hbm, ⟨29, _⟩ => ⟨S32x64, .f32⟩
  | .hbm, ⟨30, _⟩ => ⟨S32x64, .f32⟩
  | .hbm, ⟨31, _⟩ => ⟨S32x64x1, .f32⟩
  | .hbm, ⟨32, _⟩ => ⟨S32x64x960, .f32⟩
  | .hbm, ⟨33, _⟩ => ⟨S32x64x960, .f32⟩
  | .hbm, ⟨34, _⟩ => ⟨S32x64x960, .f32⟩
  | .hbm, ⟨35, _⟩ => ⟨S_, .f32⟩
  | .hbm, ⟨36, _⟩ => ⟨S32x64, .f32⟩
  | .hbm, ⟨37, _⟩ => ⟨S32x64x1, .f32⟩
  | .hbm, ⟨38, _⟩ => ⟨S32x64x960, .f32⟩
  | .hbm, ⟨39, _⟩ => ⟨S32x64x960, .f32⟩
  | .hbm, ⟨40, _⟩ => ⟨S32x64x960, .i32⟩
  | .hbm, ⟨41, _⟩ => ⟨S_, .f32⟩
  | .hbm, ⟨42, _⟩ => ⟨S_, .i32⟩
  | .hbm, ⟨43, _⟩ => ⟨S32x64, .f32⟩
  | .hbm, ⟨44, _⟩ => ⟨S32x64, .i32⟩
  | .hbm, ⟨45, _⟩ => ⟨S32x64x1, .i32⟩
  | .hbm, ⟨46, _⟩ => ⟨S1x1x960, .i32⟩
  | .hbm, ⟨47, _⟩ => ⟨S32x64x960, .i32⟩
  | .hbm, ⟨48, _⟩ => ⟨S32x64x960, .i32⟩
  | .hbm, ⟨49, _⟩ => ⟨S32x64x960, .i1⟩
  | .hbm, ⟨50, _⟩ => ⟨S32x64x960, .f32⟩
  | .hbm, ⟨51, _⟩ => ⟨S32x64x96, .f32⟩
  | .hbm, ⟨52, _⟩ => ⟨S32x32x96, .f32⟩
  | .hbm, ⟨53, _⟩ => ⟨S32x32x96, .f32⟩
  | .hbm, ⟨54, _⟩ => ⟨S32x1024x96, .f32⟩
  | _, _ => ⟨S32x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call2_v0 : Ref sig .tc := ⟨.hbm, 40, rfl⟩
abbrev main_call2_cst : Ref sig .tc := ⟨.hbm, 41, rfl⟩
abbrev main_call2_c : Ref sig .tc := ⟨.hbm, 42, rfl⟩
abbrev main_call2_v1_0 : Ref sig .tc := ⟨.hbm, 43, rfl⟩
abbrev main_v26 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]
-- ==== Proof.Rows.lean ====
/- The mathematics both programs compute, on one batch entry `X` of 1024 rows of 96 extended reals.

   The 64 edge rows (0 … 31 and 992 … 1023) are each replaced by the middle row (32 … 991) most similar to it; the
   middle rows stay. The similarity of two rows is the product of the rows scaled to unit length, the length clipped from
   below. A scaled row is REAL whatever the row holds (`unit_real`): a row with an infinite entry has infinite length, and
   is scaled to zeros. So similarities are real, softmax keeps their order (`softmax_lt_iff`), and the first largest
   similarity is where the first largest softmax is (`firstMax_softmax`). -/
module

public import Idealize.ShloMosaic.PureOps.Ideal
public import Idealize.ShloMosaic.Lib.IdealHost

@[expose] public section

noncomputable section

namespace Cert.Edge

open Idealize.ShloMosaic

/-! ## A row scaled to unit length -/

/-- The smallest length a row is divided by. -/
def clip : EReal := Ideal.ofBits .f32 0x2B8CBCCC#32

/-- The clip is a positive real. -/
theorem clip_pos : ∃ r : ℝ, 0 < r ∧ clip = (r : EReal) := by
  refine ⟨(2 ^ 23 + 834764 : ℕ) * (2 : ℝ) ^ (-63 : ℤ), by positivity, ?_⟩
  unfold clip
  simp [Ideal.ofBits, Ideal.ieee, -EReal.coe_mul]

/-- Entry `d` of the row `v` scaled to unit length. -/
def unit (v : Fin 96 → EReal) (d : Fin 96) : EReal := Ideal.div (v d) (max (Ideal.sqrt (∑ e, v e * v e)) clip)

/-- A square is not negative. -/
theorem square_nonneg (x : EReal) : 0 ≤ x * x := by
  induction x with
  | bot => simp
  | top => simp
  | coe r => exact_mod_cast mul_self_nonneg r

/-- A finite sum of reals is the real of the sum. -/
theorem sum_coe {ι : Type*} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

/-- Dividing by an infinite length leaves zero. -/
theorem div_top (x : EReal) : Ideal.div x ⊤ = 0 := by
  unfold Ideal.div; simp

/-- Every entry of a scaled row is real. -/
theorem unit_real (v : Fin 96 → EReal) (d : Fin 96) : ∃ r : ℝ, unit v d = (r : EReal) := by
  obtain ⟨c, hc, hclip⟩ := clip_pos
  by_cases h : ∃ e, v e = ⊤ ∨ v e = ⊥
  · obtain ⟨e, he⟩ := h
    have hs : ∑ e, v e * v e = ⊤ := by
      refine top_le_iff.mp ?_
      have h1 : v e * v e = ⊤ := by rcases he with he | he <;> simp [he]
      rw [← h1]
      exact Finset.single_le_sum (f := fun e => v e * v e) (fun i _ => square_nonneg (v i)) (Finset.mem_univ e)
    refine ⟨0, ?_⟩
    have h2 : max (Ideal.sqrt ⊤) clip = ⊤ := top_le_iff.mp (le_max_left _ _)
    rw [unit, hs, h2, div_top]; rfl
  · have hr : ∀ e, ∃ r : ℝ, v e = (r : EReal) := fun e => by
      have h1 : v e ≠ ⊤ := fun h' => h ⟨e, .inl h'⟩
      have h2 : v e ≠ ⊥ := fun h' => h ⟨e, .inr h'⟩
      exact ⟨(v e).toReal, (EReal.coe_toReal h1 h2).symm⟩
    choose r hr using hr
    have hs : ∑ e, v e * v e = ((∑ e, r e * r e : ℝ) : EReal) := by
      rw [← sum_coe]; exact Finset.sum_congr rfl fun e _ => by rw [hr e, EReal.coe_mul]
    have hn : ¬ (∑ e, r e * r e) < 0 := not_lt.mpr (Finset.sum_nonneg fun e _ => mul_self_nonneg _)
    have hm : max (Ideal.sqrt (∑ e, v e * v e)) clip = ((max (Real.sqrt (∑ e, r e * r e)) c : ℝ) : EReal) := by
      rw [hs, Ideal.sqrt_coe, if_neg hn, hclip]
      exact (EReal.coe_strictMono.monotone.map_max).symm
    have hp : max (Real.sqrt (∑ e, r e * r e)) c ≠ 0 := (lt_max_of_lt_right hc).ne'
    refine ⟨r d * (1 / max (Real.sqrt (∑ e, r e * r e)) c), ?_⟩
    rw [unit, hm, Ideal.div_coe hp, hr d, EReal.coe_mul]

/-- The similarity of two rows. -/
def score (u w : Fin 96 → EReal) : EReal := ∑ d, unit u d * unit w d

/-- A similarity is real. -/
theorem score_real (u w : Fin 96 → EReal) : ∃ r : ℝ, score u w = (r : EReal) := by
  choose a ha using unit_real u
  choose b hb using unit_real w
  refine ⟨∑ d, a d * b d, ?_⟩
  rw [score, ← sum_coe]
  exact Finset.sum_congr rfl fun d _ => by rw [ha, hb, EReal.coe_mul]

/-! ## The first largest entry -/

variable {n : ℕ}

/-- `k` is where `f` is largest, and the first such place. -/
def FirstMax (f : Fin n → EReal) (k : Fin n) : Prop := (∀ j, f j ≤ f k) ∧ ∀ j, j < k → f j < f k

/-- There is at most one first largest entry. -/
theorem FirstMax.unique {f : Fin n → EReal} {k l : Fin n} (hk : FirstMax f k) (hl : FirstMax f l) : k = l := by
  rcases lt_trichotomy k l with h | h | h
  · exact absurd (hl.2 k h) (not_lt.mpr (hk.1 l))
  · exact h
  · exact absurd (hk.2 l h) (not_lt.mpr (hl.1 k))

/-- There is a first largest entry. -/
theorem exists_firstMax (f : Fin n → EReal) (hn : 0 < n) : ∃ k, FirstMax f k := by
  classical
  haveI : Nonempty (Fin n) := ⟨⟨0, hn⟩⟩
  obtain ⟨m, hm⟩ := Finite.exists_max f
  let s : Finset (Fin n) := Finset.univ.filter fun k => f k = f m
  have hs : s.Nonempty := ⟨m, by simp [s]⟩
  have hk : f (s.min' hs) = f m := (Finset.mem_filter.mp (s.min'_mem hs)).2
  refine ⟨s.min' hs, fun j => hk ▸ hm j, fun j hj => ?_⟩
  rw [hk]
  refine lt_of_le_of_ne (hm j) fun e => ?_
  exact absurd (s.min'_le j (by simp [s, e])) (not_le.mpr hj)

/-- The place of the first largest of 960 entries. -/
def best (f : Fin 960 → EReal) : Fin 960 := Classical.choose (exists_firstMax f (by norm_num))

/-- `best` is the first largest entry's place. -/
theorem best_spec (f : Fin 960 → EReal) : FirstMax f (best f) := Classical.choose_spec (exists_firstMax f (by norm_num))

/-- The largest entry, folded from minus infinity. -/
def top (f : Fin n → EReal) : EReal := Finset.univ.fold max ⊥ f

/-- The folded maximum is the entry at any place where the entries are largest. -/
theorem top_eq {f : Fin n → EReal} {k : Fin n} (hk : ∀ j, f j ≤ f k) : top f = f k := by
  apply le_antisymm
  · exact (Finset.fold_max_le _).mpr ⟨bot_le, fun j _ => hk j⟩
  · exact (Finset.le_fold_max _).mpr (.inr ⟨k, Finset.mem_univ k, le_refl _⟩)

/-! ## Softmax keeps the order -/

/-- Softmax of `f` at `j`, shifted by the maximum. -/
def softmax (f : Fin n → EReal) (j : Fin n) : EReal :=
  Ideal.div (Ideal.exp (f j - top f)) (∑ i, Ideal.exp (f i - top f))

/-- On real entries, softmax is a positive multiple of the exponential. -/
theorem softmax_real (r : Fin n → ℝ) (f : Fin n → EReal) (hf : ∀ j, f j = (r j : EReal)) :
    ∃ a m : ℝ, 0 ≤ a ∧ ∀ j, 0 < a ∧ softmax f j = ((Real.exp (r j - m) * a : ℝ) : EReal) := by
  rcases Nat.eq_zero_or_pos n with rfl | hn
  · exact ⟨1, 0, zero_le_one, fun j => j.elim0⟩
  obtain ⟨k, hk⟩ := exists_firstMax f hn
  have ht : top f = (r k : EReal) := (top_eq hk.1).trans (hf k)
  have he : ∀ i, Ideal.exp (f i - top f) = ((Real.exp (r i - r k) : ℝ) : EReal) := fun i => by
    rw [ht, hf i, ← EReal.coe_sub, Ideal.exp_coe]
  have hs : ∑ i, Ideal.exp (f i - top f) = ((∑ i, Real.exp (r i - r k) : ℝ) : EReal) := by
    rw [← sum_coe]; exact Finset.sum_congr rfl fun i _ => he i
  have hp : 0 < ∑ i, Real.exp (r i - r k) :=
    Finset.sum_pos (fun i _ => Real.exp_pos _) ⟨k, Finset.mem_univ k⟩
  refine ⟨1 / ∑ i, Real.exp (r i - r k), r k, by positivity, fun j => ⟨by positivity, ?_⟩⟩
  rw [softmax, hs, Ideal.div_coe hp.ne', he j, EReal.coe_mul]

/-- On real entries, softmax keeps the strict order. -/
theorem softmax_lt_iff {f : Fin n → EReal} (hf : ∀ j, ∃ r : ℝ, f j = (r : EReal)) (i j : Fin n) :
    softmax f i < softmax f j ↔ f i < f j := by
  choose r hr using hf
  obtain ⟨a, m, _, h⟩ := softmax_real r f hr
  rw [(h i).2, (h j).2, hr i, hr j, EReal.coe_lt_coe_iff, EReal.coe_lt_coe_iff, mul_lt_mul_iff_left₀ (h i).1, Real.exp_lt_exp]
  constructor <;> intro h <;> linarith

/-- On real entries, softmax is above minus infinity. -/
theorem softmax_gt_bot {f : Fin n → EReal} (hf : ∀ j, ∃ r : ℝ, f j = (r : EReal)) (j : Fin n) : ⊥ < softmax f j := by
  choose r hr using hf
  obtain ⟨a, m, _, h⟩ := softmax_real r f hr
  rw [(h j).2]; exact EReal.bot_lt_coe _

/-- On real entries, the first largest softmax is at the first largest entry. -/
theorem firstMax_softmax {f : Fin n → EReal} (hf : ∀ j, ∃ r : ℝ, f j = (r : EReal)) {k : Fin n} (h : FirstMax (softmax f) k) :
    FirstMax f k :=
  ⟨fun j => not_lt.mp fun hlt => absurd ((softmax_lt_iff hf k j).mpr hlt) (not_lt.mpr (h.1 j)),
    fun j hj => (softmax_lt_iff hf j k).mp (h.2 j hj)⟩

/-! ## The result of one batch entry -/

/-- Edge row `i` among all rows: the first 32, then the last 32. -/
def edgeRow (i : Fin 64) : Fin 1024 := if h : i.val < 32 then ⟨i.val, by omega⟩ else ⟨i.val + 960, by omega⟩

/-- Middle row `j` among all rows. -/
def midRow (j : Fin 960) : Fin 1024 := ⟨32 + j.val, by omega⟩

/-- The similarities of edge row `i` to the middle rows. -/
def scores (X : Fin 1024 → Fin 96 → EReal) (i : Fin 64) (j : Fin 960) : EReal := score (X (edgeRow i)) (X (midRow j))

/-- The similarities are real. -/
theorem scores_real (X : Fin 1024 → Fin 96 → EReal) (i : Fin 64) (j : Fin 960) : ∃ r : ℝ, scores X i j = (r : EReal) :=
  score_real _ _

/-- The middle row most similar to edge row `i`. -/
def pick (X : Fin 1024 → Fin 96 → EReal) (i : Fin 64) (d : Fin 96) : EReal := X (midRow (best (scores X i))) d

/-- The result: the edge rows replaced by their picks, the middle rows kept. -/
def result (X : Fin 1024 → Fin 96 → EReal) (r : Fin 1024) (d : Fin 96) : EReal :=
  if h : r.val < 32 then pick X ⟨r.val, by omega⟩ d
  else if h' : r.val < 992 then X r d
  else pick X ⟨r.val - 960, by omega⟩ d

/-- A row of zeros with a single one, times the entries, is the entry at the one. -/
theorem sum_single (k : Fin n) (g : Fin n → EReal) : ∑ j, (if j = k then (1 : EReal) else 0) * g j = g k := by
  simp

end Cert.Edge

end
-- ==== Proof.Words.lean ====
/- Positions as 32-bit words: how each program finds the place of the first largest entry, and turns it into a row of
   zeros with a single one. -/
module

public import proofs.«01_k».proof.Proof.Rows
public import proofs.«01_k».proof.Proof.Gen.ReferenceIdeal
public import Idealize.ShloMosaic.PureOps.Reduce

@[expose] public section

noncomputable section

namespace Cert.Edge

open Idealize.ShloMosaic

/-- A position below 960 as a 32-bit word. -/
abbrev word (k : Fin 960) : BitVec 32 := BitVec.ofNat 32 k.val

/-- The word of a position, read as a signed integer, is the position. -/
theorem word_toInt (k : Fin 960) : (word k).toInt = (k.val : ℤ) := by
  have h := k.isLt
  rw [BitVec.toInt_eq_toNat_of_lt (by rw [BitVec.toNat_ofNat, Nat.mod_eq_of_lt (by omega)]; omega), BitVec.toNat_ofNat,
    Nat.mod_eq_of_lt (by omega)]

/-- Two positions with the same word are the same. -/
theorem word_inj {j k : Fin 960} : word j = word k ↔ j = k := by
  refine ⟨fun h => ?_, fun h => h ▸ rfl⟩
  have := congrArg BitVec.toInt h
  rw [word_toInt, word_toInt] at this
  exact Fin.ext (by exact_mod_cast this)

/-! ## The least position where the maximum is taken -/

/-- The signed minimum of two words, as an integer. -/
theorem minsi_toInt (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.mp h)]

/-- The candidates of the search: a position where `f` takes the value `t` counts as itself, any other as 960. -/
def cand (f : Fin 960 → EReal) (t : EReal) (j : Fin 960) : BitVec 32 := if f j = t then word j else 960#32

/-- The least candidate for the maximum is the first largest entry's place. -/
theorem fold_min_cand (f : Fin 960 → EReal) {k : Fin 960} (hk : FirstMax f k) :
    Finset.univ.fold IntOp.minsi 2147483647#32 (cand f (top f)) = word k := by
  apply BitVec.eq_of_toInt_eq
  rw [← Finset.fold_hom (op := IntOp.minsi) (op' := (min : ℤ → ℤ → ℤ)) (m := BitVec.toInt) minsi_toInt, top_eq hk.1, word_toInt]
  have hmax : (2147483647#32 : BitVec 32).toInt = 2147483647 := by decide
  have h960 : (960#32 : BitVec 32).toInt = 960 := by decide
  have hlt := k.isLt
  apply le_antisymm
  · refine (Finset.fold_min_le _).mpr (.inr ⟨k, Finset.mem_univ k, ?_⟩)
    rw [cand, if_pos rfl, word_toInt]
  · refine (Finset.le_fold_min _).mpr ⟨by rw [hmax]; omega, fun j _ => ?_⟩
    unfold cand
    split
    · rename_i h
      rw [word_toInt]
      have : ¬ j < k := fun hj => absurd h (hk.2 j hj).ne
      exact_mod_cast (not_lt.mp this)
    · rw [h960]; omega

/-! ## The pairwise search for the first largest entry -/

/-- One pair is at least as good as another: a larger value, or the same value at no later a position. -/
def Beats (p q : EReal × BitVec 32) : Prop := q.1 < p.1 ∨ (q.1 = p.1 ∧ p.2.toInt ≤ q.2.toInt)

theorem Beats.refl (p : EReal × BitVec 32) : Beats p p := .inr ⟨rfl, le_refl _⟩

theorem Beats.trans {p q r : EReal × BitVec 32} (h : Beats p q) (h' : Beats q r) : Beats p r := by
  rcases h with h | ⟨h, g⟩ <;> rcases h' with h' | ⟨h', g'⟩
  · exact .inl (h'.trans h)
  · exact .inl (h' ▸ h)
  · exact .inl (h ▸ h')
  · exact .inr ⟨h'.trans h, g.trans g'⟩

/-- The reference's comparison of two pairs keeps one of them, and it beats both. -/
theorem reducer_beats (a b : EReal × BitVec 32) :
    (Cert.ReferenceIdeal.reducer_argmax_f32_i32 (F := Ideal) a b = a ∨ Cert.ReferenceIdeal.reducer_argmax_f32_i32 (F := Ideal) a b = b)
      ∧ Beats (Cert.ReferenceIdeal.reducer_argmax_f32_i32 (F := Ideal) a b) a
      ∧ Beats (Cert.ReferenceIdeal.reducer_argmax_f32_i32 (F := Ideal) a b) b := by
  obtain ⟨x, i⟩ := a
  obtain ⟨y, j⟩ := b
  have key : Cert.ReferenceIdeal.reducer_argmax_f32_i32 (F := Ideal) (x, i) (y, j)
      = if y < x ∨ (x = y ∧ i.toInt < j.toInt) then (x, i) else (y, j) := by
    rcases lt_trichotomy x y with h | h | h
    · simp [Cert.ReferenceIdeal.reducer_argmax_f32_i32, Ideal.cmpf_def, Ideal.cmp, IntOp.ori, IntOp.andi, IntOp.cmpi, Scalar.select,
        h.not_gt, h.ne]
    · subst h
      by_cases g : i.toInt < j.toInt <;>
      simp [Cert.ReferenceIdeal.reducer_argmax_f32_i32, Ideal.cmpf_def, Ideal.cmp, IntOp.ori, IntOp.andi, IntOp.cmpi, Scalar.select,
        BitVec.slt_eq_decide, g]
    · simp [Cert.ReferenceIdeal.reducer_argmax_f32_i32, Ideal.cmpf_def, Ideal.cmp, IntOp.ori, IntOp.andi, IntOp.cmpi, Scalar.select,
        h, h.ne']
  rw [key]
  split
  · rename_i h
    refine ⟨.inl rfl, Beats.refl _, ?_⟩
    rcases h with h | ⟨h, g⟩
    · exact .inl h
    · exact .inr ⟨h.symm, g.le⟩
  · rename_i h
    refine ⟨.inr rfl, ?_, Beats.refl _⟩
    push Not at h
    rcases h.1.lt_or_eq with g | g
    · exact .inl g
    · exact .inr ⟨g, h.2 g⟩

/-- The search over a list keeps one of the pairs it saw, and that pair beats them all. -/
theorem foldl_beats (L : List (EReal × BitVec 32)) (p : EReal × BitVec 32) :
    (L.foldl (Cert.ReferenceIdeal.reducer_argmax_f32_i32 (F := Ideal)) p = p
        ∨ L.foldl (Cert.ReferenceIdeal.reducer_argmax_f32_i32 (F := Ideal)) p ∈ L)
      ∧ Beats (L.foldl (Cert.ReferenceIdeal.reducer_argmax_f32_i32 (F := Ideal)) p) p
      ∧ ∀ q ∈ L, Beats (L.foldl (Cert.ReferenceIdeal.reducer_argmax_f32_i32 (F := Ideal)) p) q := by
  induction L generalizing p with
  | nil => exact ⟨.inl rfl, Beats.refl p, fun q hq => absurd hq (by simp)⟩
  | cons a L ih =>
    obtain ⟨h1, h2, h3⟩ := ih (Cert.ReferenceIdeal.reducer_argmax_f32_i32 (F := Ideal) p a)
    obtain ⟨g1, g2, g3⟩ := reducer_beats p a
    rw [List.foldl_cons]
    refine ⟨?_, h2.trans g2, fun q hq => ?_⟩
    · rcases h1 with h1 | h1
      · rcases g1 with g1 | g1
        · exact .inl (h1.trans g1)
        · exact .inr (List.mem_cons.mpr (.inl (h1.trans g1)))
      · exact .inr (List.mem_cons_of_mem _ h1)
    · rcases List.mem_cons.mp hq with rfl | hq
      · exact h2.trans g3
      · exact h3 q hq

/-- A search over a list holding exactly the pairs `(p j, word j)`, from a value below all of them, ends at the first
    largest entry's word. -/
theorem foldl_firstMax (p : Fin 960 → EReal) (hp : ∀ j, ⊥ < p j) (L : List (EReal × BitVec 32))
    (hL : ∀ q, q ∈ L ↔ ∃ j, q = (p j, word j)) (i₀ : BitVec 32) :
    ∃ k, FirstMax p k ∧ (L.foldl (Cert.ReferenceIdeal.reducer_argmax_f32_i32 (F := Ideal)) (⊥, i₀)).2 = word k := by
  obtain ⟨h1, _, h3⟩ := foldl_beats L (⊥, i₀)
  have hmem : L.foldl (Cert.ReferenceIdeal.reducer_argmax_f32_i32 (F := Ideal)) (⊥, i₀) ∈ L := by
    rcases h1 with h1 | h1
    · exfalso
      have := h3 (p 0, word 0) ((hL _).mpr ⟨0, rfl⟩)
      rw [h1] at this
      rcases this with h | ⟨h, _⟩
      · exact absurd h not_lt_bot
      · exact absurd h (hp 0).ne'
    · exact h1
  obtain ⟨k, hk⟩ := (hL _).mp hmem
  rw [hk] at h3
  refine ⟨k, ⟨fun j => ?_, fun j hj => ?_⟩, by rw [hk]⟩
  · rcases h3 _ ((hL _).mpr ⟨j, rfl⟩) with h | ⟨h, _⟩
    · exact h.le
    · exact h.le
  · rcases h3 _ ((hL _).mpr ⟨j, rfl⟩) with h | ⟨_, h⟩
    · exact h
    · rw [word_toInt, word_toInt] at h
      exact absurd hj (not_lt.mpr (by exact_mod_cast h))

/-! ## A row of zeros with a single one -/

/-- The comparison of two positions' words, widened to 32 bits and read as a signed number, is one or zero. -/
theorem hot_signed (j k : Fin 960) :
    ((((IntOp.cmpi .eq (word j) (word k)).setWidth 32).toInt : ℝ) : EReal) = if j = k then 1 else 0 := by
  by_cases h : j = k
  · subst h; simp [IntOp.cmpi]
  · have hw : (word j == word k) = false := by rw [beq_eq_false_iff_ne, Ne, word_inj]; exact h
    simp [IntOp.cmpi, h, hw]

/-- The comparison of two positions' words, read as an unsigned number, is one or zero. -/
theorem hot_unsigned (j k : Fin 960) :
    (((IntOp.cmpi .eq (word k) (word j)).toNat : ℝ) : EReal) = if j = k then 1 else 0 := by
  by_cases h : j = k
  · subst h; simp [IntOp.cmpi]
  · have hw : (word k == word j) = false := by rw [beq_eq_false_iff_ne, Ne, word_inj]; exact Ne.symm h
    simp [IntOp.cmpi, h, hw]

end Cert.Edge

end
-- ==== Proof.KernelStages.lean ====
/- One grid step of the kernel, on the extended reals: the arrays the body forms from the block it loads, read element by
   element. The body's stored values are those of `Cert.Edge.result` of the block's rows. -/
module

public import proofs.«01_k».proof.Proof.Words
public import proofs.«01_k».proof.Proof.Gen.KernelIdeal.Skeleton
public import Idealize.ShloMosaic.Lib.Pointwise
public import Idealize.ShloMosaic.Lib.IdealHost

@[expose] public section

noncomputable section

namespace Cert.KernelIdeal.Stage

open Cert.KernelIdeal Cert.KernelIdeal.Gen Idealize.ShloMosaic Cert.Edge

/-- The rows of a loaded block. -/
def rowsOf (x : Vec Ideal S1x1024x96 .f32) (r : Fin 1024) (d : Fin 96) : EReal := x (ix3 0 r d)

/-- The 64 edge rows of a block. -/
def edge (x : Vec Ideal S1x1024x96 .f32) : FVec Ideal S64x96 .f32 :=
  concatenate S64x96 0 [⟨S32x96, extractStridedSlice S32x96 ![0, 0] (k0_pay3 x) slices_S1024x96_o0_0_S32x96⟩,
    ⟨S32x96, extractStridedSlice S32x96 ![992, 0] (k0_pay3 x) slices_S1024x96_o992_0_S32x96⟩] concatenates_S32x96_S32x96_S64x96_d0

/-- 64 rows scaled to unit length. -/
def edgeUnit (e : FVec Ideal S64x96 .f32) : FVec Ideal S64x96 .f32 :=
  divf e (broadcastTo S64x96 (maximumf
    (sqrt (shapeCast S64x1 (multiReduction .add [1] S64 (mulf e e) 0x00000000#32 reduces_S64x96_S64 (.inl rfl) rfl) shapeCasts_S64_S64x1))
    (broadcast S64x1 (Scalar.ofBits .f32 0x2B8CBCCC#32 : Ideal .f32))) broadcasts_S64x1_S64x96)

/-- 960 rows scaled to unit length. -/
def midUnit (e : FVec Ideal S960x96 .f32) : FVec Ideal S960x96 .f32 :=
  divf e (broadcastTo S960x96 (maximumf
    (sqrt (shapeCast S960x1 (multiReduction .add [1] S960 (mulf e e) 0x00000000#32 reduces_S960x96_S960 (.inl rfl) rfl) shapeCasts_S960_S960x1))
    (broadcast S960x1 (Scalar.ofBits .f32 0x2B8CBCCC#32 : Ideal .f32))) broadcasts_S960x1_S960x96)

/-- The similarities of the edge rows to the middle rows. -/
def sim (e : FVec Ideal S64x96 .f32) (d : FVec Ideal S960x96 .f32) : FVec Ideal S64x960 .f32 :=
  matmul dot_S64x96_S960x96_S64x960_1_1_0_0_n_n none (edgeUnit e) (midUnit d) (constant S64x960 .f32 0x00000000#32)

/-- The position of every row's maximum, the least one where there are several. -/
def place (s : FVec Ideal S64x960 .f32) : IVec S64 32 :=
  multiReductionI .minsi [1] S64
    (select (cmpf .oeq s (broadcastTo S64x960 (shapeCast S64x1
        (multiReduction .maximumf [1] S64 s 0xFF800000#32 reduces_S64x960_S64 (.inl rfl) rfl) shapeCasts_S64_S64x1) broadcasts_S64x1_S64x960))
      (iota .tc S64x960 32 [1] iota_S64x960_d1_w32) (broadcast S64x960 960#32))
    2147483647#32 reduces_S64x960_S64 rfl

/-- Rows of zeros with a single one at the given positions. -/
def hot (k : IVec S64 32) : FVec Ideal S64x960 .f32 :=
  sitofp .f32 (extui 32 (cmpi .eq (iota .tc S64x960 32 [1] iota_S64x960_d1_w32)
    (broadcastTo S64x960 (shapeCast S64x1 k shapeCasts_S64_S64x1) broadcasts_S64x1_S64x960)) natLt_1_32)

/-- The body's 64 picked rows are the stages one after another. -/
theorem pay5_eq (x : Vec Ideal S1x1024x96 .f32) :
    k0_pay5 (F := Ideal) x = matmul dot_S64x960_S960x96_S64x96_1_0_0_1_n_n none (hot (place (sim (edge x) (k0_pay4 x)))) (k0_pay4 x)
      (constant S64x96 .f32 0x00000000#32) := rfl

/-- A middle row of the block. -/
theorem mid_apply (x : Vec Ideal S1x1024x96 .f32) (j : Fin 960) (d : Fin 96) :
    k0_pay4 (F := Ideal) x (ix2 j d) = rowsOf x (midRow j) d := by
  unfold k0_pay4 k0_pay3
  pointwise
  rfl

/-- An edge row of the block. -/
theorem edge_apply (x : Vec Ideal S1x1024x96 .f32) (i : Fin 64) (d : Fin 96) : edge x (ix2 i d) = rowsOf x (edgeRow i) d := by
  unfold edge k0_pay3
  pointwise
  unfold rowsOf edgeRow
  split
  · rfl
  · rename_i h
    have hr : (992 + (i.val - 32)) = i.val + 960 := by omega
    simp only [hr]

/-- A scaled edge row. -/
theorem edgeUnit_apply (e : FVec Ideal S64x96 .f32) (i : Fin 64) (d : Fin 96) :
    edgeUnit e (ix2 i d) = unit (fun d => e (ix2 i d)) d := by
  unfold edgeUnit
  pointwise
  rfl

/-- A scaled middle row. -/
theorem midUnit_apply (e : FVec Ideal S960x96 .f32) (j : Fin 960) (d : Fin 96) :
    midUnit e (ix2 j d) = unit (fun d => e (ix2 j d)) d := by
  unfold midUnit
  pointwise
  rfl

/-- The similarity of an edge row to a middle row. -/
theorem sim_apply (x : Vec Ideal S1x1024x96 .f32) (i : Fin 64) (j : Fin 960) :
    sim (edge x) (k0_pay4 x) (ix2 i j) = scores (rowsOf x) i j := by
  unfold sim
  pointwise [dot_S64x96_S960x96_S64x960_1_1_0_0_n_n]
  simp only [edgeUnit_apply, midUnit_apply, edge_apply, mid_apply]
  rfl

/-- The position found in row `i` is that of the row's first largest entry. -/
theorem place_apply (s : FVec Ideal S64x960 .f32) (i : Fin 64) :
    place s (ix1 i) = word (best fun j => s (ix2 i j)) := by
  unfold place
  pointwise
  rw [show Ideal.ofBits .f32 4286578688#32 = (⊥ : EReal) by simp [Ideal.ofBits, Ideal.ieee]]
  exact fold_min_cand _ (best_spec fun j => s (ix2 i j))

/-- The row of zeros has its one at the position given. -/
theorem hot_apply (k : IVec S64 32) (i : Fin 64) (j l : Fin 960) (h : k (ix1 i) = word l) :
    hot k (ix2 i j) = if j = l then 1 else 0 := by
  unfold hot
  pointwise
  rw [h]
  exact hot_signed j l

/-- The body's picked rows are the middle rows most similar to the edge rows. -/
theorem pay5_apply (x : Vec Ideal S1x1024x96 .f32) (i : Fin 64) (d : Fin 96) :
    k0_pay5 (F := Ideal) x (ix2 i d) = pick (rowsOf x) i d := by
  have h : place (sim (edge x) (k0_pay4 x)) (ix1 i) = word (best (scores (rowsOf x) i)) := by
    rw [place_apply]; simp only [sim_apply]
  rw [pay5_eq]
  pointwise [dot_S64x960_S960x96_S64x96_1_0_0_1_n_n]
  simp only [hot_apply _ i _ _ h, mid_apply]
  exact sum_single _ _

/-- The first 32 stored rows. -/
theorem pay6_apply (x : Vec Ideal S1x1024x96 .f32) (z : Fin 1) (i : Fin 32) (d : Fin 96) :
    k0_pay6 (F := Ideal) x (ix3 z i d) = result (rowsOf x) ⟨i.val, by omega⟩ d := by
  unfold k0_pay6
  pointwise
  rw [pay5_apply]
  simp [result]

/-- The 960 stored middle rows. -/
theorem pay1_apply (x : Vec Ideal S1x1024x96 .f32) (z : Fin 1) (j : Fin 960) (d : Fin 96) :
    k0_pay1 (F := Ideal) (k0_pay4 x) (ix3 z j d) = result (rowsOf x) ⟨32 + j.val, by omega⟩ d := by
  unfold k0_pay1
  pointwise
  have h : 32 + j.val < 992 := by omega
  rw [mid_apply]
  simp [result, h, midRow]

/-- The last 32 stored rows. -/
theorem pay2_apply (x : Vec Ideal S1x1024x96 .f32) (z : Fin 1) (i : Fin 32) (d : Fin 96) :
    k0_pay2 (F := Ideal) (k0_pay5 x) (ix3 z i d) = result (rowsOf x) ⟨992 + i.val, by omega⟩ d := by
  unfold k0_pay2
  pointwise
  rw [pay5_apply]
  have h : 992 + i.val - 960 = 32 + i.val := by omega
  have h' : ¬ 992 + i.val < 32 := by omega
  simp [result, h, h']

end Cert.KernelIdeal.Stage

end
-- ==== Proof.KernelBlock.lean ====
/- What one grid step leaves in the output's staging buffer, and so what the result array holds after the run: every batch
   entry of the array is `Cert.Edge.result` of the argument's rows at that entry. -/
module

public import proofs.«01_k».proof.Proof.KernelStages
public import proofs.«01_k».proof.Proof.Gen.KernelIdeal.Value
public import Idealize.ShloMosaic.Lib.Pipeline.ValueKit

@[expose] public section

noncomputable section

namespace Cert.KernelIdeal.Stage

open Cert.KernelIdeal Cert.KernelIdeal.Gen Idealize.ShloMosaic Idealize.ShloMosaic.TcCoe Idealize.SL.Sem Cert.Edge

/-- A block whose rows are the results of the loaded block's rows. -/
def blockOf (x : Vec Ideal S1x1024x96 .f32) : Vec Ideal S1x1024x96 .f32 := fun y => result (rowsOf x) (y 1) (y 2)

/-- A block read at an index whose row is known. -/
theorem blockOf_at (x : Vec Ideal S1x1024x96 .f32) (y : S1x1024x96.Idx) (r : Fin 1024) (d : Fin 96)
    (h1 : (y 1).val = r.val) (h2 : (y 2).val = d.val) : blockOf x y = result (rowsOf x) r d := by
  have e1 : y 1 = r := Fin.ext h1
  have e2 : y 2 = d := Fin.ext h2
  rw [blockOf, e1, e2]

/-- The first store's rows are the results of the first 32 rows. -/
theorem first_piece (x : Vec Ideal S1x1024x96 .f32) (j : S1x32x96.Idx) :
    k0_pay6 (F := Ideal) x j
      = blockOf x ((Rect.unit (s := S1x1024x96) ![0, 0, 0] S1x32x96.size inb_S1x1024x96_S1x32x96_0_0_0).emb j) := by
  idx_vars j
  rw [pay6_apply]
  exact (blockOf_at x _ _ _ (by simp [Rect.emb_apply]) (by simp [Rect.emb_apply])).symm

/-- The second store's rows are the results of the 960 middle rows. -/
theorem mid_piece (x : Vec Ideal S1x1024x96 .f32) (j : S1x960x96.Idx) :
    k0_pay1 (F := Ideal) (k0_pay4 x) j
      = blockOf x ((Rect.unit (s := S1x1024x96) ![0, 32, 0] S1x960x96.size inb_S1x1024x96_S1x960x96_0_32_0).emb j) := by
  idx_vars j
  rw [pay1_apply]
  exact (blockOf_at x _ _ _ (by simp [Rect.emb_apply]) (by simp [Rect.emb_apply])).symm

/-- The third store's rows are the results of the last 32 rows. -/
theorem last_piece (x : Vec Ideal S1x1024x96 .f32) (j : S1x32x96.Idx) :
    k0_pay2 (F := Ideal) (k0_pay5 x) j
      = blockOf x ((Rect.unit (s := S1x1024x96) ![0, 992, 0] S1x32x96.size inb_S1x1024x96_S1x32x96_0_992_0).emb j) := by
  idx_vars j
  rw [pay2_apply]
  exact (blockOf_at x _ _ _ (by simp [Rect.emb_apply]) (by simp [Rect.emb_apply])).symm

/-- The body leaves the output's buffer at the block of results: its three stores tile the buffer, and each holds the
    results of the rows it lies over. -/
theorem out_eq (c : Dev nD) (i : grid0.Coords) (arg1 : Memref sig .tc .vmem S1x1024x96 .f32) (harg1 : arg1.IsWhole)
    (arg2 : Memref sig .tc .vmem S1x1024x96 .f32) (harg2 : arg2.IsWhole) (x : Vec Ideal S1x1024x96 .f32) :
    out0_A_1 c i arg1 harg1 arg2 harg2 x = blockOf x := by
  have hz : (![0, 0, 0] : Fin 3 → ℕ) = fun _ => 0 := by decide
  funext y
  unfold out0_A_1
  rw [View.read_writes_eq_canon _ _ _ (cover0_A_1 c i arg1 harg1 arg2 harg2 x)]
  have hcov := cover0_A_1 c i arg1 harg1 arg2 harg2 x y
  revert hcov
  unfold kernelRun0_A
  dsimp only
  sl_unfold_words
  simp only [View.readAt_eq_ld, harg1.read_unread]
  rw [View.ld_unit_zero (S := S1x1024x96) hz]
  intro hcov
  refine View.canon_apply_of_pieces (blockOf x) _ (fun p hp j => ?_) y hcov
  simp only [List.mem_cons, List.mem_nil_iff, or_false] at hp
  rcases hp with rfl | rfl | rfl
  · exact last_piece x j
  · exact mid_piece x j
  · exact first_piece x j

end Cert.KernelIdeal.Stage

end
-- ==== Proof.KernelArray.lean ====
/- What the result array holds after the kernel's run: every batch entry of it is `Cert.Edge.result` of the argument's rows
   at that entry. -/
module

public import proofs.«01_k».proof.Proof.KernelBlock

@[expose] public section

noncomputable section

namespace Cert.KernelIdeal.Stage

open Cert.KernelIdeal Cert.KernelIdeal.Gen Idealize.ShloMosaic Idealize.ShloMosaic.TcCoe Idealize.SL.Sem Cert.Edge

variable (m : (ℓ : Loc nD τ sig) → Buf (Elt Ideal) ℓ) (ρ : Dev nD → PrngReg)

/-- The array whose every batch entry is the result of the argument's rows at that entry. -/
def arrayOf (X : FVec Ideal S32x1024x96 .f32) : FVec Ideal S32x1024x96 .f32 :=
  fun i => result (fun r d => X (ix3 (i 0) r d)) (i 1) (i 2)

/-- Grid step `t` works on batch entry `t` of the argument. -/
theorem index_in (t : Fin cfg0.N) : win0_0.index t = ![(grid0.coords t 0).val, 0, 0] :=
  (by decide +kernel : ∀ t : Fin grid0.N, win0_0.index t = ![(grid0.coords t 0).val, 0, 0]) t

/-- Grid step `t` writes batch entry `t` of the result. -/
theorem index_out (t : Fin cfg0.N) : win0_1.index t = ![(grid0.coords t 0).val, 0, 0] :=
  (by decide +kernel : ∀ t : Fin grid0.N, win0_1.index t = ![(grid0.coords t 0).val, 0, 0]) t

/-- After the run the result array is `arrayOf` the argument. -/
theorem final (c : Dev nD) : (dats m 0 c).arrAt 1 cfg0.N = arrayOf (m ((c : Thread nD τ).loc main_arg0)) := by
  refine (dats m 0 c).arrAt_eq_of_covers 1 _ (by decide +kernel) fun t hf y => ?_
  blk_simp
  rw [after0_1]
  unfold outsAt0
  rw [out_eq]
  have h1 : (y 1 : Fin 1024) = ((win0_1.blk t).view.emb y) 1 := Fin.ext (by blk_simp [index_out])
  have h2 : (y 2 : Fin 96) = ((win0_1.blk t).view.emb y) 2 := Fin.ext (by blk_simp [index_out])
  have hrow : rowsOf (iblk m c 0 t)
      = fun r d => m ((c : Thread nD τ).loc main_arg0) (ix3 (((win0_1.blk t).view.emb y) 0) r d) := by
    funext r d
    unfold rowsOf
    blk_simp [iblk]
    rw [V_main_arg0]
    refine congrArg (m ((c : Thread nD τ).loc main_arg0)) ?_
    blk_ext [index_in, index_out]
  show result _ (y 1) (y 2) = result _ _ _
  rw [hrow, h1, h2]

end Cert.KernelIdeal.Stage

end
-- ==== Proof.RefTerm.lean ====
/- The reference's computation as a chain of array functions of its one argument, stage by stage, in the host's own
   operations and over any float instance. `RefRun.lean` shows that a run of the program leaves `result X` in the result
   buffer; `RefRead.lean` reads the stages element by element on the extended reals. -/
module

public import proofs.«01_k».proof.Proof.Gen.ReferenceIdeal

@[expose] public section

noncomputable section

namespace Cert.ReferenceIdeal.Stage

open Cert.ReferenceIdeal Cert.ReferenceIdeal.Gen Idealize.ShloMosaic

variable {F : FTy → Type} [FloatOps F]

/-- The two edge pieces of 32 rows stacked into 64 rows. -/
def joinEdges (a b : FVec F S32x32x96 .f32) : FVec F S32x64x96 .f32 :=
  concatenate S32x64x96 1 [⟨S32x32x96, a⟩, ⟨S32x32x96, b⟩] concatenates_S32x32x96_S32x32x96_S32x64x96_d1

/-- The result's three row ranges stacked back into 1024 rows. -/
def joinRows (a : FVec F S32x32x96 .f32) (b : FVec F S32x960x96 .f32) (d : FVec F S32x32x96 .f32) : FVec F S32x1024x96 .f32 :=
  concatenate S32x1024x96 1 [⟨S32x32x96, a⟩, ⟨S32x960x96, b⟩, ⟨S32x32x96, d⟩] concatenates_S32x32x96_S32x960x96_S32x32x96_S32x1024x96_d1

/-- The 64 edge rows of every batch entry: rows 0 … 31 and rows 992 … 1023. -/
def edge (X : FVec F S32x1024x96 .f32) : FVec F S32x64x96 .f32 :=
  joinEdges (extractStridedSlice S32x32x96 ![0, 0, 0] X slices_S32x1024x96_S32x32x96_0_0_0)
    (extractStridedSlice S32x32x96 ![0, 992, 0] X slices_S32x1024x96_S32x32x96_0_992_0)

/-- The 960 middle rows of every batch entry: rows 32 … 991. -/
def mid (X : FVec F S32x1024x96 .f32) : FVec F S32x960x96 .f32 :=
  extractStridedSlice S32x960x96 ![0, 32, 0] X slices_S32x1024x96_S32x960x96_0_32_0

/-- Edge rows divided by their Euclidean norm, the norm clipped from below. -/
def edgeUnit (e : FVec F S32x64x96 .f32) : FVec F S32x64x96 .f32 :=
  Host.divf e (broadcastInDim S32x64x96 ![0, 1, 2] bcast_S32x64x1_S32x64x96_0_1_2
    (maximumf
      (Host.sqrt (broadcastInDim S32x64x1 ![0, 1] bcast_S32x64_S32x64x1_0_1
        (Host.reduceAdd (mulf e e) (constant S_ .f32 0x00000000#32) reducesTo_S32x64x96_S32x64_d2 h_S_)))
      (broadcastInDim S32x64x1 ![] bcast_S_S32x64x1 (constant S_ .f32 0x2B8CBCCC#32))))

/-- Middle rows divided by their Euclidean norm, the norm clipped from below. -/
def midUnit (d : FVec F S32x960x96 .f32) : FVec F S32x960x96 .f32 :=
  Host.divf d (broadcastInDim S32x960x96 ![0, 1, 2] bcast_S32x960x1_S32x960x96_0_1_2
    (maximumf
      (Host.sqrt (broadcastInDim S32x960x1 ![0, 1] bcast_S32x960_S32x960x1_0_1
        (Host.reduceAdd (mulf d d) (constant S_ .f32 0x00000000#32) reducesTo_S32x960x96_S32x960_d2 h_S_)))
      (broadcastInDim S32x960x1 ![] bcast_S_S32x960x1 (constant S_ .f32 0x2B8CBCCC#32))))

/-- The similarity of every edge row to every middle row. -/
def sim (X : FVec F S32x1024x96 .f32) : FVec F S32x64x960 .f32 :=
  Host.dotGeneral dot_S32x64x96_S32x960x96_S32x64x960_2_2_1_1_0_0 none (edgeUnit (edge X)) (midUnit (mid X))

/-- The exponentials of the similarities, each row shifted by its maximum. -/
def shifted (s : FVec F S32x64x960 .f32) : FVec F S32x64x960 .f32 :=
  Host.exp (subf s (broadcastInDim S32x64x960 ![0, 1, 2] bcast_S32x64x1_S32x64x960_0_1_2
    (broadcastInDim S32x64x1 ![0, 1] bcast_S32x64_S32x64x1_0_1
      (maximumf (broadcastInDim S32x64 ![] bcast_S_S32x64 (constant S_ .f32 0xFF800000#32))
        (Host.reduce FloatOps.maximumf s (constant S_ .f32 0xFF800000#32) reducesTo_S32x64x960_S32x64_d2 h_S_)))))

/-- The softmax of every row. -/
def soft (s : FVec F S32x64x960 .f32) : FVec F S32x64x960 .f32 :=
  Host.divf (shifted s) (broadcastInDim S32x64x960 ![0, 1, 2] bcast_S32x64x1_S32x64x960_0_1_2
    (broadcastInDim S32x64x1 ![0, 1] bcast_S32x64_S32x64x1_0_1
      (Host.reduceAdd (shifted s) (constant S_ .f32 0x00000000#32) reducesTo_S32x64x960_S32x64_d2 h_S_)))

/-- The position of every row's first largest entry, as a 32-bit word. -/
def argmax (p : FVec F S32x64x960 .f32) : IVec S32x64 32 := fun j =>
  (Host.argReduce reducer_argmax_f32_i32 p (iotaInDim S32x64x960 32 2) (constant S_ .f32 0xFF800000#32) (constantI S_ 32 0#32)
    reducesTo_S32x64x960_S32x64_d2 h_S_ j).2

/-- The rows of zeros with a single one at the given position. -/
def hot (k : IVec S32x64 32) : FVec F S32x64x960 .f32 :=
  uitofp .f32 (cmpi .eq
    (broadcastInDim S32x64x960 ![0, 1, 2] bcast_S32x64x1_S32x64x960_0_1_2 (broadcastInDim S32x64x1 ![0, 1] bcast_S32x64_S32x64x1_0_1 k))
    (broadcastInDim S32x64x960 ![0, 1, 2] bcast_S1x1x960_S32x64x960_0_1_2 (iotaInDim S1x1x960 32 2)))

/-- The middle row picked for every edge row. -/
def picked (X : FVec F S32x1024x96 .f32) : FVec F S32x64x96 .f32 :=
  Host.dotGeneral dot_S32x64x960_S32x960x96_S32x64x96_2_1_1_2_0_0 none (hot (F := F) (argmax (soft (sim X)))) (mid X)

/-- The whole reference: the edge rows replaced by the picked middle rows, the middle rows kept. -/
def result (X : FVec F S32x1024x96 .f32) : FVec F S32x1024x96 .f32 :=
  joinRows (extractStridedSlice S32x32x96 ![0, 0, 0] (picked X) slices_S32x64x96_S32x32x96_0_0_0) (mid X)
    (extractStridedSlice S32x32x96 ![0, 32, 0] (picked X) slices_S32x64x96_S32x32x96_0_32_0)

end Cert.ReferenceIdeal.Stage

end
-- ==== Proof.RefRun.lean ====
/- A run of the reference: its operations listed in program order, and what their results leave in the result buffer —
   `Stage.result` of the argument — with the argument unchanged. -/
module

public import proofs.«01_k».proof.Proof.RefTerm
public import Idealize.ShloMosaic.Lib.StableHlo.Run

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The program's 54 operations in order; those of a called function stand where the call is. -/
abbrev steps : List (HloOp τ sig (Elt F)) :=
  [ unary main_arg0 main_v0 ((extractStridedSlice S32x32x96 ![0, 0, 0] · slices_S32x1024x96_S32x32x96_0_0_0) : (⟨S32x1024x96, .f32⟩ : BufTy).Contents (Elt F) → (⟨S32x32x96, .f32⟩ : BufTy).Contents (Elt F)),
    unary main_arg0 main_v1 ((extractStridedSlice S32x960x96 ![0, 32, 0] · slices_S32x1024x96_S32x960x96_0_32_0) : (⟨S32x1024x96, .f32⟩ : BufTy).Contents (Elt F) → (⟨S32x960x96, .f32⟩ : BufTy).Contents (Elt F)),
    unary main_arg0 main_v2 ((extractStridedSlice S32x32x96 ![0, 992, 0] · slices_S32x1024x96_S32x32x96_0_992_0) : (⟨S32x1024x96, .f32⟩ : BufTy).Contents (Elt F) → (⟨S32x32x96, .f32⟩ : BufTy).Contents (Elt F)),
    binary main_v0 main_v2 main_v3 (joinEdges (F := F)),
    TRef.binary (TRef.of (T := ⟨S32x64x96, .f32⟩) main_v3) (TRef.of (T := ⟨S32x64x96, .f32⟩) main_v3) (TRef.of (T := ⟨S32x64x96, .f32⟩) main_call0_v0) mulf,
    TRef.nullary (TRef.of (T := ⟨S_, .f32⟩) main_call0_cst) (constant S_ .f32 0x00000000#32),
    TRef.binary (TRef.of (T := ⟨S32x64x96, .f32⟩) main_call0_v0) (TRef.of (T := ⟨S_, .f32⟩) main_call0_cst) (TRef.of (T := ⟨S32x64, .f32⟩) main_call0_v1) (fun x v => Host.reduceAdd x v reducesTo_S32x64x96_S32x64_d2 h_S_),
    TRef.unary (TRef.of (T := ⟨S32x64, .f32⟩) main_call0_v1) (TRef.of (T := ⟨S32x64x1, .f32⟩) main_call0_v2) (broadcastInDim S32x64x1 ![0, 1] bcast_S32x64_S32x64x1_0_1),
    TRef.unary (TRef.of (T := ⟨S32x64x1, .f32⟩) main_call0_v2) (TRef.of (T := ⟨S32x64x1, .f32⟩) main_v4) Host.sqrt,
    nullary main_cst (constant S_ .f32 0x2B8CBCCC#32),
    unary main_cst main_v5 (broadcastInDim S32x64x1 ![] bcast_S_S32x64x1 : (⟨S_, .f32⟩ : BufTy).Contents (Elt F) → (⟨S32x64x1, .f32⟩ : BufTy).Contents (Elt F)),
    binary main_v4 main_v5 main_v6 (maximumf : (⟨S32x64x1, .f32⟩ : BufTy).Contents (Elt F) → (⟨S32x64x1, .f32⟩ : BufTy).Contents (Elt F) → (⟨S32x64x1, .f32⟩ : BufTy).Contents (Elt F)),
    unary main_v6 main_v7 (broadcastInDim S32x64x96 ![0, 1, 2] bcast_S32x64x1_S32x64x96_0_1_2 : (⟨S32x64x1, .f32⟩ : BufTy).Contents (Elt F) → (⟨S32x64x96, .f32⟩ : BufTy).Contents (Elt F)),
    binary main_v3 main_v7 main_v8 (Host.divf : (⟨S32x64x96, .f32⟩ : BufTy).Contents (Elt F) → (⟨S32x64x96, .f32⟩ : BufTy).Contents (Elt F) → (⟨S32x64x96, .f32⟩ : BufTy).Contents (Elt F)),
    TRef.binary (TRef.of (T := ⟨S32x960x96, .f32⟩) main_v1) (TRef.of (T := ⟨S32x960x96, .f32⟩) main_v1) (TRef.of (T := ⟨S32x960x96, .f32⟩) main_call1_v0) mulf,
    TRef.nullary (TRef.of (T := ⟨S_, .f32⟩) main_call1_cst) (constant S_ .f32 0x00000000#32),
    TRef.binary (TRef.of (T := ⟨S32x960x96, .f32⟩) main_call1_v0) (TRef.of (T := ⟨S_, .f32⟩) main_call1_cst) (TRef.of (T := ⟨S32x960, .f32⟩) main_call1_v1) (fun x v => Host.reduceAdd x v reducesTo_S32x960x96_S32x960_d2 h_S_),
    TRef.unary (TRef.of (T := ⟨S32x960, .f32⟩) main_call1_v1) (TRef.of (T := ⟨S32x960x1, .f32⟩) main_call1_v2) (broadcastInDim S32x960x1 ![0, 1] bcast_S32x960_S32x960x1_0_1),
    TRef.unary (TRef.of (T := ⟨S32x960x1, .f32⟩) main_call1_v2) (TRef.of (T := ⟨S32x960x1, .f32⟩) main_v9) Host.sqrt,
    nullary main_cst_0 (constant S_ .f32 0x2B8CBCCC#32),
    unary main_cst_0 main_v10 (broadcastInDim S32x960x1 ![] bcast_S_S32x960x1 : (⟨S_, .f32⟩ : BufTy).Contents (Elt F) → (⟨S32x960x1, .f32⟩ : BufTy).Contents (Elt F)),
    binary main_v9 main_v10 main_v11 (maximumf : (⟨S32x960x1, .f32⟩ : BufTy).Contents (Elt F) → (⟨S32x960x1, .f32⟩ : BufTy).Contents (Elt F) → (⟨S32x960x1, .f32⟩ : BufTy).Contents (Elt F)),
    unary main_v11 main_v12 (broadcastInDim S32x960x96 ![0, 1, 2] bcast_S32x960x1_S32x960x96_0_1_2 : (⟨S32x960x1, .f32⟩ : BufTy).Contents (Elt F) → (⟨S32x960x96, .f32⟩ : BufTy).Contents (Elt F)),
    binary main_v1 main_v12 main_v13 (Host.divf : (⟨S32x960x96, .f32⟩ : BufTy).Contents (Elt F) → (⟨S32x960x96, .f32⟩ : BufTy).Contents (Elt F) → (⟨S32x960x96, .f32⟩ : BufTy).Contents (Elt F)),
    binary main_v8 main_v13 main_v14 ((fun l r => Host.dotGeneral dot_S32x64x96_S32x960x96_S32x64x960_2_2_1_1_0_0 none l r) : (⟨S32x64x96, .f32⟩ : BufTy).Contents (Elt F) → (⟨S32x960x96, .f32⟩ : BufTy).Contents (Elt F) → (⟨S32x64x960, .f32⟩ : BufTy).Contents (Elt F)),
    nullary main_cst_1 (constant S_ .f32 0xFF800000#32),
    binary main_v14 main_cst_1 main_v15 ((fun x v => Host.reduce FloatOps.maximumf x v reducesTo_S32x64x960_S32x64_d2 h_S_) : (⟨S32x64x960, .f32⟩ : BufTy).Contents (Elt F) → (⟨S_, .f32⟩ : BufTy).Contents (Elt F) → (⟨S32x64, .f32⟩ : BufTy).Contents (Elt F)),
    nullary main_cst_2 (constant S_ .f32 0xFF800000#32),
    unary main_cst_2 main_v16 (broadcastInDim S32x64 ![] bcast_S_S32x64 : (⟨S_, .f32⟩ : BufTy).Contents (Elt F) → (⟨S32x64, .f32⟩ : BufTy).Contents (Elt F)),
    binary main_v16 main_v15 main_v17 (maximumf : (⟨S32x64, .f32⟩ : BufTy).Contents (Elt F) → (⟨S32x64, .f32⟩ : BufTy).Contents (Elt F) → (⟨S32x64, .f32⟩ : BufTy).Contents (Elt F)),
    unary main_v17 main_v18 (broadcastInDim S32x64x1 ![0, 1] bcast_S32x64_S32x64x1_0_1 : (⟨S32x64, .f32⟩ : BufTy).Contents (Elt F) → (⟨S32x64x1, .f32⟩ : BufTy).Contents (Elt F)),
    unary main_v18 main_v19 (broadcastInDim S32x64x960 ![0, 1, 2] bcast_S32x64x1_S32x64x960_0_1_2 : (⟨S32x64x1, .f32⟩ : BufTy).Contents (Elt F) → (⟨S32x64x960, .f32⟩ : BufTy).Contents (Elt F)),
    binary main_v14 main_v19 main_v20 (subf : (⟨S32x64x960, .f32⟩ : BufTy).Contents (Elt F) → (⟨S32x64x960, .f32⟩ : BufTy).Contents (Elt F) → (⟨S32x64x960, .f32⟩ : BufTy).Contents (Elt F)),
    unary main_v20 main_v21 (Host.exp : (⟨S32x64x960, .f32⟩ : BufTy).Contents (Elt F) → (⟨S32x64x960, .f32⟩ : BufTy).Contents (Elt F)),
    nullary main_cst_3 (constant S_ .f32 0x00000000#32),
    binary main_v21 main_cst_3 main_v22 ((fun x v => Host.reduceAdd x v reducesTo_S32x64x960_S32x64_d2 h_S_) : (⟨S32x64x960, .f32⟩ : BufTy).Contents (Elt F) → (⟨S_, .f32⟩ : BufTy).Contents (Elt F) → (⟨S32x64, .f32⟩ : BufTy).Contents (Elt F)),
    unary main_v22 main_v23 (broadcastInDim S32x64x1 ![0, 1] bcast_S32x64_S32x64x1_0_1 : (⟨S32x64, .f32⟩ : BufTy).Contents (Elt F) → (⟨S32x64x1, .f32⟩ : BufTy).Contents (Elt F)),
    unary main_v23 main_v24 (broadcastInDim S32x64x960 ![0, 1, 2] bcast_S32x64x1_S32x64x960_0_1_2 : (⟨S32x64x1, .f32⟩ : BufTy).Contents (Elt F) → (⟨S32x64x960, .f32⟩ : BufTy).Contents (Elt F)),
    binary main_v21 main_v24 main_v25 (Host.divf : (⟨S32x64x960, .f32⟩ : BufTy).Contents (Elt F) → (⟨S32x64x960, .f32⟩ : BufTy).Contents (Elt F) → (⟨S32x64x960, .f32⟩ : BufTy).Contents (Elt F)),
    TRef.nullary (TRef.of (T := ⟨S32x64x960, .i32⟩) main_call2_v0) (iotaInDim S32x64x960 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S32x64x960, .f32⟩) main_v25) (TRef.of (T := ⟨S32x64x960, .i32⟩) main_call2_v0) (TRef.of (T := ⟨S_, .f32⟩) main_call2_cst) (TRef.of (T := ⟨S_, .i32⟩) main_call2_c) (TRef.of (T := ⟨S32x64, .f32⟩) main_call2_v1_0) (fun x y u v j => (Host.argReduce reducer_argmax_f32_i32 x y u v reducesTo_S32x64x960_S32x64_d2 h_S_ j).1),
    TRef.quaternary (TRef.of (T := ⟨S32x64x960, .f32⟩) main_v25) (TRef.of (T := ⟨S32x64x960, .i32⟩) main_call2_v0) (TRef.of (T := ⟨S_, .f32⟩) main_call2_cst) (TRef.of (T := ⟨S_, .i32⟩) main_call2_c) (TRef.of (T := ⟨S32x64, .i32⟩) main_v26) (fun x y u v j => (Host.argReduce reducer_argmax_f32_i32 x y u v reducesTo_S32x64x960_S32x64_d2 h_S_ j).2),
    TRef.unary (TRef.of (T := ⟨S32x64, .i32⟩) main_v26) (TRef.of (T := ⟨S32x64x1, .i32⟩) main_call3_v0) (broadcastInDim S32x64x1 ![0, 1] bcast_S32x64_S32x64x1_0_1),
    TRef.nullary (TRef.of (T := ⟨S1x1x960, .i32⟩) main_call3_v1) (iotaInDim S1x1x960 32 2),
    TRef.unary (TRef.of (T := ⟨S32x64x1, .i32⟩) main_call3_v0) (TRef.of (T := ⟨S32x64x960, .i32⟩) main_call3_v2) (broadcastInDim S32x64x960 ![0, 1, 2] bcast_S32x64x1_S32x64x960_0_1_2),
    TRef.unary (TRef.of (T := ⟨S1x1x960, .i32⟩) main_call3_v1) (TRef.of (T := ⟨S32x64x960, .i32⟩) main_call3_v3) (broadcastInDim S32x64x960 ![0, 1, 2] bcast_S1x1x960_S32x64x960_0_1_2),
    TRef.binary (TRef.of (T := ⟨S32x64x960, .i32⟩) main_call3_v2) (TRef.of (T := ⟨S32x64x960, .i32⟩) main_call3_v3) (TRef.of (T := ⟨S32x64x960, .i1⟩) main_call3_v4) (cmpi .eq),
    TRef.unary (TRef.of (T := ⟨S32x64x960, .i1⟩) main_call3_v4) (TRef.of (T := ⟨S32x64x960, .f32⟩) main_v27) (uitofp .f32),
    binary main_v27 main_v1 main_v28 ((fun l r => Host.dotGeneral dot_S32x64x960_S32x960x96_S32x64x96_2_1_1_2_0_0 none l r) : (⟨S32x64x960, .f32⟩ : BufTy).Contents (Elt F) → (⟨S32x960x96, .f32⟩ : BufTy).Contents (Elt F) → (⟨S32x64x96, .f32⟩ : BufTy).Contents (Elt F)),
    unary main_v28 main_v29 ((extractStridedSlice S32x32x96 ![0, 0, 0] · slices_S32x64x96_S32x32x96_0_0_0) : (⟨S32x64x96, .f32⟩ : BufTy).Contents (Elt F) → (⟨S32x32x96, .f32⟩ : BufTy).Contents (Elt F)),
    unary main_v28 main_v30 ((extractStridedSlice S32x32x96 ![0, 32, 0] · slices_S32x64x96_S32x32x96_0_32_0) : (⟨S32x64x96, .f32⟩ : BufTy).Contents (Elt F) → (⟨S32x32x96, .f32⟩ : BufTy).Contents (Elt F)),
    nary ![main_v29, main_v1, main_v30] main_v31 (fun u => joinRows (F := F) (u 0) (u 1) (u 2)) ]

set_option maxRecDepth 8192 in
/-- The program is these operations, one after the other. -/
theorem main_steps (c : Dev nD) : main (F := F) c = seq steps := rfl

/-- No buffer of the program is scoped. -/
theorem no_scoped_refs : (Finset.univ.filter fun b : Ref sig .tc => b.isScoped) = ∅ := by decide

/-- No semaphore of the program is scoped. -/
theorem no_scoped_sems : (Finset.univ.filter fun sm : SemLoc sig => sm.isScoped .tc) = ∅ := by decide

set_option maxRecDepth 8192 in
/-- Every operation touches buffers of its own device only. -/
theorem steps_local : (steps : List (HloOp τ sig (Elt F))).Forall fun op => op.bufs ⊆ tcRefs τ sig :=
  ⟨unary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., unary_bufs_sub .., unary_bufs_sub .., nary_bufs_sub ..⟩

set_option maxRecDepth 8192 in
/-- Every run of the reference ends with `result` of the argument in the result buffer and the argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = result (F := F) (m ((c.tc : Thread nD τ).loc main_arg0))
      ∧ r.2.mem ((c.tc : Thread nD τ).loc main_arg0) = m ((c.tc : Thread nD τ).loc main_arg0) := by
  refine (θ_run defs _ _).mono (fun _ h c => ⟨(h c main_v31).trans ?_, (h c main_arg0).trans ?_⟩)
    (run_seq no_scoped_refs no_scoped_sems defs main (fun _ => steps) main_steps (fun _ => steps_local) m ρ)
  · simp only [steps, TRef.quaternary, TRef.binary, TRef.nullary, TRef.unary, TRef.toBuf, TRef.ofBuf, cast_eq]
    after_results_simp <;> (try dsimp only [Matrix.cons_val]) <;> (try after_results_simp)
    rfl
  · simp only [steps, TRef.quaternary, TRef.binary, TRef.nullary, TRef.unary, TRef.toBuf, TRef.ofBuf, cast_eq]
    after_results_simp

end Cert.ReferenceIdeal.Stage

end
-- ==== Proof.RefRead.lean ====
/- The reference's stages read element by element on the extended reals: batch entry `b` of its result is
   `Cert.Edge.result` of the argument's rows at `b`. -/
module

public import proofs.«01_k».proof.Proof.Words
public import proofs.«01_k».proof.Proof.RefTerm
public import Idealize.ShloMosaic.Lib.Pointwise
public import Idealize.ShloMosaic.Lib.IdealHost

@[expose] public section

noncomputable section

namespace Cert.ReferenceIdeal.Stage

open Cert.ReferenceIdeal Cert.ReferenceIdeal.Gen Idealize.ShloMosaic Cert.Edge

/-- The literal both maxima start from is minus infinity. -/
theorem negInf : Ideal.ofBits .f32 4286578688#32 = (⊥ : EReal) := by simp [Ideal.ofBits, Ideal.ieee]

/-- The rows of batch entry `b`. -/
def rowsAt (X : FVec Ideal S32x1024x96 .f32) (b : Fin 32) (r : Fin 1024) (d : Fin 96) : EReal := X (ix3 b r d)

/-- A middle row of a batch entry. -/
theorem mid_apply (X : FVec Ideal S32x1024x96 .f32) (b : Fin 32) (j : Fin 960) (d : Fin 96) :
    mid X (ix3 b j d) = rowsAt X b (midRow j) d := by
  unfold mid
  pointwise
  rfl

/-- An edge row of a batch entry. -/
theorem edge_apply (X : FVec Ideal S32x1024x96 .f32) (b : Fin 32) (i : Fin 64) (d : Fin 96) :
    edge X (ix3 b i d) = rowsAt X b (edgeRow i) d := by
  unfold edge joinEdges
  pointwise
  unfold rowsAt edgeRow
  split
  · rfl
  · rename_i h
    have hr : (992 + (i.val - 32)) = i.val + 960 := by omega
    simp only [hr]

/-- A scaled edge row. -/
theorem edgeUnit_apply (e : FVec Ideal S32x64x96 .f32) (b : Fin 32) (i : Fin 64) (d : Fin 96) :
    edgeUnit e (ix3 b i d) = unit (fun d => e (ix3 b i d)) d := by
  unfold edgeUnit
  pointwise
  rfl

/-- A scaled middle row. -/
theorem midUnit_apply (e : FVec Ideal S32x960x96 .f32) (b : Fin 32) (j : Fin 960) (d : Fin 96) :
    midUnit e (ix3 b j d) = unit (fun d => e (ix3 b j d)) d := by
  unfold midUnit
  pointwise
  rfl

/-- The similarity of an edge row to a middle row. -/
theorem sim_apply (X : FVec Ideal S32x1024x96 .f32) (b : Fin 32) (i : Fin 64) (j : Fin 960) :
    sim X (ix3 b i j) = scores (rowsAt X b) i j := by
  unfold sim
  pointwise [dot_S32x64x96_S32x960x96_S32x64x960_2_2_1_1_0_0]
  simp only [edgeUnit_apply, midUnit_apply, edge_apply, mid_apply]
  rfl

/-- The maximum of a row. -/
theorem rowTop_apply (s : FVec Ideal S32x64x960 .f32) (b : Fin 32) (i : Fin 64) :
    Host.reduce FloatOps.maximumf s (constant S_ .f32 0xFF800000#32) reducesTo_S32x64x960_S32x64_d2 h_S_ (ix2 b i)
      = top fun j => s (ix3 b i j) := by
  unfold top
  pointwise
  rw [negInf]

/-- The exponentials of an array whose rows are shifted by given numbers. -/
def shiftBy (s : FVec Ideal S32x64x960 .f32) (z : FVec Ideal S32x64 .f32) : FVec Ideal S32x64x960 .f32 :=
  Host.exp (subf s (broadcastInDim S32x64x960 ![0, 1, 2] bcast_S32x64x1_S32x64x960_0_1_2
    (broadcastInDim S32x64x1 ![0, 1] bcast_S32x64_S32x64x1_0_1
      (maximumf (broadcastInDim S32x64 ![] bcast_S_S32x64 (constant S_ .f32 0xFF800000#32)) z))))

/-- The shifted exponentials are shifted by the rows' maxima. -/
theorem shifted_def (s : FVec Ideal S32x64x960 .f32) : shifted s = shiftBy s
    (Host.reduce FloatOps.maximumf s (constant S_ .f32 0xFF800000#32) reducesTo_S32x64x960_S32x64_d2 h_S_) := rfl

/-- The exponential of a shifted entry. -/
theorem shiftBy_apply (s : FVec Ideal S32x64x960 .f32) (z : FVec Ideal S32x64 .f32) (b : Fin 32) (i : Fin 64) (j : Fin 960) :
    shiftBy s z (ix3 b i j) = Ideal.exp (s (ix3 b i j) - z (ix2 b i)) := by
  unfold shiftBy
  pointwise
  rw [negInf, max_eq_right bot_le]

/-- The exponential of a row, shifted by its maximum. -/
theorem shifted_apply (s : FVec Ideal S32x64x960 .f32) (b : Fin 32) (i : Fin 64) (j : Fin 960) :
    shifted s (ix3 b i j) = Ideal.exp (s (ix3 b i j) - top fun j => s (ix3 b i j)) := by
  rw [shifted_def, shiftBy_apply, rowTop_apply]

/-- An array divided by its rows' sums. -/
def softOf (e : FVec Ideal S32x64x960 .f32) : FVec Ideal S32x64x960 .f32 :=
  Host.divf e (broadcastInDim S32x64x960 ![0, 1, 2] bcast_S32x64x1_S32x64x960_0_1_2
    (broadcastInDim S32x64x1 ![0, 1] bcast_S32x64_S32x64x1_0_1
      (Host.reduceAdd e (constant S_ .f32 0x00000000#32) reducesTo_S32x64x960_S32x64_d2 h_S_)))

/-- The softmax is the shifted exponentials divided by their rows' sums. -/
theorem soft_def (s : FVec Ideal S32x64x960 .f32) : soft s = softOf (shifted s) := rfl

/-- An entry divided by its row's sum. -/
theorem softOf_apply (e : FVec Ideal S32x64x960 .f32) (b : Fin 32) (i : Fin 64) (j : Fin 960) :
    softOf e (ix3 b i j) = Ideal.div (e (ix3 b i j)) (∑ l, e (ix3 b i l)) := by
  unfold softOf
  pointwise

/-- The softmax of a row. -/
theorem soft_apply (s : FVec Ideal S32x64x960 .f32) (b : Fin 32) (i : Fin 64) (j : Fin 960) :
    soft s (ix3 b i j) = softmax (fun j => s (ix3 b i j)) j := by
  rw [soft_def, softOf_apply, softmax]
  simp only [shifted_apply]

/-- The pairs an arg-reduction along the last axis goes through at one place: the entries along that axis with what they
    are paired with. -/
theorem mem_fiber {n0 n1 n2 : ℕ} (p : FVec Ideal ⟨3, ![n0, n1, n2]⟩ .f32) (y : IVec ⟨3, ![n0, n1, n2]⟩ 32)
    (h : (⟨3, ![n0, n1, n2]⟩ : Shape).ReducesTo [2] ⟨2, ![n0, n1]⟩) (b : Fin n0) (i : Fin n1) (q : EReal × BitVec 32) :
    q ∈ Host.argReduceFiber p y h (ix2 b i) ↔ ∃ j, q = (p (ix3 b i j), y (ix3 b i j)) := by
  unfold Host.argReduceFiber
  simp only [List.mem_map, List.mem_filter, List.mem_finRange, true_and, decide_eq_true_eq]
  constructor
  · rintro ⟨n, hn, rfl⟩
    obtain ⟨j, hj⟩ := (Shape.ReducesTo.fiber_r3_a2 _ _ _).mp hn
    refine ⟨j, ?_⟩
    rw [← hj]
    rfl
  · rintro ⟨j, rfl⟩
    refine ⟨Shape.rowMajor _ (ix3 b i j), ?_, ?_⟩
    · rw [Equiv.symm_apply_apply]
      exact (Shape.ReducesTo.fiber_r3_a2 _ _ _).mpr ⟨j, rfl⟩
    · rw [Equiv.symm_apply_apply]

/-- The positions found, as the stage states them. -/
theorem argmax_def (p : FVec Ideal S32x64x960 .f32) : argmax p = fun j =>
    (Host.argReduce reducer_argmax_f32_i32 p (iotaInDim S32x64x960 32 2) (constant S_ .f32 0xFF800000#32) (constantI S_ 32 0#32)
      reducesTo_S32x64x960_S32x64_d2 h_S_ j).2 := rfl

/-- The position found in a row, as a search over the row's pairs. -/
theorem argmax_eq_foldl (p : FVec Ideal S32x64x960 .f32) (b : Fin 32) (i : Fin 64) :
    argmax p (ix2 b i) = (List.foldl reducer_argmax_f32_i32 ((⊥ : EReal), 0#32)
      (Host.argReduceFiber p (iotaInDim S32x64x960 32 2) reducesTo_S32x64x960_S32x64_d2 (ix2 b i))).2 := by
  rw [argmax_def]
  beta_reduce
  rw [Ideal.argReduce_eq_reduce2, Host.reduce2_eq_foldl_fiber]
  have hbot : (constant (F := Ideal) S_ .f32 0xFF800000#32) (Shape.Idx.first h_S_) = (⊥ : EReal) := negInf
  have hzero : (constantI S_ 32 0#32) (Shape.Idx.first h_S_) = 0#32 := rfl
  rw [hbot, hzero]

/-- The position found in a row is that of the row's first largest entry. -/
theorem argmax_apply (p : FVec Ideal S32x64x960 .f32) (b : Fin 32) (i : Fin 64) (hp : ∀ j, ⊥ < p (ix3 b i j)) :
    ∃ k, FirstMax (fun j => p (ix3 b i j)) k ∧ argmax p (ix2 b i) = word k := by
  rw [argmax_eq_foldl]
  refine foldl_firstMax _ hp _ (fun q => ?_) _
  exact mem_fiber p (iotaInDim S32x64x960 32 2) reducesTo_S32x64x960_S32x64_d2 b i q

/-- The row of zeros has its one at the position given. -/
theorem hot_apply (k : IVec S32x64 32) (b : Fin 32) (i : Fin 64) (j l : Fin 960) (h : k (ix2 b i) = word l) :
    hot (F := Ideal) k (ix3 b i j) = if j = l then 1 else 0 := by
  unfold hot
  pointwise
  rw [h]
  exact hot_unsigned j l

/-- The picked rows are the middle rows most similar to the edge rows. -/
theorem picked_apply (X : FVec Ideal S32x1024x96 .f32) (b : Fin 32) (i : Fin 64) (d : Fin 96) :
    picked X (ix3 b i d) = pick (rowsAt X b) i d := by
  have hs : ∀ j, soft (sim X) (ix3 b i j) = softmax (scores (rowsAt X b) i) j := fun j => by
    rw [soft_apply]; simp only [sim_apply]
  obtain ⟨k, hk, hw⟩ := argmax_apply (soft (sim X)) b i fun j => by
    rw [hs]; exact softmax_gt_bot (scores_real _ i) j
  simp only [hs] at hk
  have he : k = best (scores (rowsAt X b) i) := (firstMax_softmax (scores_real _ i) hk).unique (best_spec _)
  unfold picked
  pointwise [dot_S32x64x960_S32x960x96_S32x64x96_2_1_1_2_0_0]
  simp only [hot_apply _ b i _ _ hw, mid_apply, he]
  exact sum_single _ _

/-- The reference's result, element by element. -/
theorem result_apply (X : FVec Ideal S32x1024x96 .f32) (b : Fin 32) (r : Fin 1024) (d : Fin 96) :
    result X (ix3 b r d) = Cert.Edge.result (rowsAt X b) r d := by
  unfold result joinRows
  pointwise
  unfold Cert.Edge.result
  have hr := r.isLt
  split
  · rw [picked_apply]
  · rename_i h
    split
    · rename_i h'
      have h'' : r.val < 992 := by omega
      have hm : midRow ⟨r.val - 32, h'⟩ = r := Fin.ext (by show 32 + (r.val - 32) = r.val; omega)
      rw [dif_pos h'', mid_apply, hm]
    · rename_i h'
      have h'' : ¬ r.val < 992 := by omega
      have hm : 32 + (r.val - 32 - 960) = r.val - 960 := by omega
      rw [dif_neg h'', picked_apply]
      simp only [hm]

end Cert.ReferenceIdeal.Stage

end
-- ==== Proof.Equation.lean ====
/- The equation: the array the kernel's run leaves is the array the reference's run leaves, for every argument. -/
module

public import proofs.«01_k».proof.Defs
public import proofs.«01_k».proof.Proof.KernelArray
public import proofs.«01_k».proof.Proof.RefRun
public import proofs.«01_k».proof.Proof.RefRead
public import Idealize.ShloMosaic.Lib.Quiescent

@[expose] public section

noncomputable section

namespace Cert.Equation

open Idealize.ShloMosaic Idealize.SL.Sem

/-- The kernel's array and the reference's are the same function of the argument. -/
theorem arrays_eq (X : FVec Ideal Cert.ReferenceIdeal.S32x1024x96 .f32) :
    Cert.ReferenceIdeal.Stage.result X = Cert.KernelIdeal.Stage.arrayOf X := by
  funext y
  idx_vars y
  rw [Cert.ReferenceIdeal.Stage.result_apply]
  rfl

/-- The reference runs to its end with its argument unchanged and every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Stage.run (F := Ideal) m ρ)

/-- On equal arguments the kernel and the reference leave equal results, and the arguments as they were. -/
theorem algebraic : Cert.algebraic_KernelIdeal_ReferenceIdeal := fun m ρ m' ρ' _ hm =>
  ⟨fun c => Cert.KernelIdeal.Stage.arrayOf (m (c.tc.loc Cert.KernelIdeal.main_arg0)),
    (θ_run Cert.KernelIdeal.defs _ _).mono
      (fun r h c => ⟨(h c).1.trans (Cert.KernelIdeal.Stage.final m c), (h c).2⟩)
      (Cert.KernelIdeal.Value.run_blocks m ρ),
    (θ_run Cert.ReferenceIdeal.defs _ _).mono
      (fun r h c => ⟨(h c).1.trans ((arrays_eq _).trans (congrArg Cert.KernelIdeal.Stage.arrayOf (hm c))), (h c).2⟩)
      (Cert.ReferenceIdeal.Stage.run (F := Ideal) m' ρ')⟩

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

/-- Every claim stated about the kernel and its reference. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    Cert.Equation.reference_frame, trivial, Cert.Equation.algebraic⟩

end Cert.Proof

end
